-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_all_active [hPre_all_active : Cert.Pre_all_active.Facts] (m : (ℓ : Loc Cert.KernelIdeal.nD Cert.KernelIdeal.τ Cert.KernelIdeal.sig) → Buf (Elt Ideal) ℓ) : Prop :=
  ∀ c : Dev Cert.KernelIdeal.nD,
    (Cert.Pre_all_active.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_all_active [hPre_all_active : Cert.Pre_all_active.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_all_active.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_all_active [hKernelIdeal : Cert.KernelIdeal.Facts] [hPre_all_active : Cert.Pre_all_active.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_all_active m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_all_active [hReferenceIdeal : Cert.ReferenceIdeal.Facts] [hPre_all_active : Cert.Pre_all_active.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_all_active m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_all_active [hKernelIdeal : Cert.KernelIdeal.Facts] [hReferenceIdeal : Cert.ReferenceIdeal.Facts] [hPre_all_active : Cert.Pre_all_active.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_all_active m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_all_active : Cert.Pre_all_active.Facts),
    quiescent_Kernel (hKernel := hKernel)
    ∧ quiescent_KernelIdeal (hKernelIdeal := hKernelIdeal)
    ∧ quiescent_KernelIdeal_pre_all_active (hKernelIdeal := hKernelIdeal) (hPre_all_active := hPre_all_active)
    ∧ quiescent_ReferenceIdeal (hReferenceIdeal := hReferenceIdeal)
    ∧ quiescent_ReferenceIdeal_pre_all_active (hReferenceIdeal := hReferenceIdeal) (hPre_all_active := hPre_all_active)
    ∧ preserves_Kernel_KernelIdeal
    ∧ algebraic_KernelIdeal_ReferenceIdeal_pre_all_active (hKernelIdeal := hKernelIdeal) (hReferenceIdeal := hReferenceIdeal) (hPre_all_active := hPre_all_active)
-- ==== Pre_all_active.lean ====
abbrev S8x576x64 : Shape := ⟨3, ![8, 576, 64]⟩
abbrev S_ : Shape := ⟨0, ![]⟩
abbrev S8192x64 : Shape := ⟨2, ![8192, 64]⟩
abbrev S8192 : Shape := ⟨1, ![8192]⟩

class Facts : Prop where
  reducesTo_S8192_S_d0 : S8192.ReducesTo [0] S_
  h_S_ : 0 < S_.numel

variable [Facts]

def fn {F : FTy → Type} [FloatOps F] (main_arg0 : FVec F S8x576x64 .f32) (main_arg1 : IVec S_ 1) (main_arg2 : FVec F S8192x64 .f32) (main_arg3 : IVec S8192 1) : IVec S_ 1 :=
  let main_c : IVec S_ 1 := constantI S_ 1 1#1
  let main_v0 : IVec S_ 1 := (fun x v => Host.reduce IntOp.andi x v reducesTo_S8192_S_d0 h_S_) main_arg3 main_c
  main_v0
-- ==== Kernel.lean ====
abbrev S8x576x64 : Shape := ⟨3, ![8, 576, 64]⟩
abbrev S_ : Shape := ⟨0, ![]⟩
abbrev S8192x64 : Shape := ⟨2, ![8192, 64]⟩
abbrev S8192 : Shape := ⟨1, ![8192]⟩
abbrev S64x8192 : Shape := ⟨2, ![64, 8192]⟩
abbrev S8x1x576 : Shape := ⟨3, ![8, 1, 576]⟩
abbrev S1x576x64 : Shape := ⟨3, ![1, 576, 64]⟩
abbrev S1x1x576 : Shape := ⟨3, ![1, 1, 576]⟩
abbrev S576x64 : Shape := ⟨2, ![576, 64]⟩
abbrev S576x8192 : Shape := ⟨2, ![576, 8192]⟩
abbrev S576 : Shape := ⟨1, ![576]⟩
abbrev S576x1 : Shape := ⟨2, ![576, 1]⟩
abbrev S1x8192 : Shape := ⟨2, ![1, 8192]⟩
abbrev S1x576 : Shape := ⟨2, ![1, 576]⟩
abbrev S8x576 : Shape := ⟨2, ![8, 576]⟩

abbrev nBuf : Space → Nat
  | .hbm => 7
  | .vmem => 5
  | .smem => 0
  | _ => 0

abbrev bufTy : (tb : Table) → Fin (tcTables nBuf tb) → BufTy
  | .hbm, ⟨0, _⟩ => ⟨S8x576x64, .f32⟩
  | .hbm, ⟨1, _⟩ => ⟨S_, .i1⟩
  | .hbm, ⟨2, _⟩ => ⟨S8192x64, .f32⟩
  | .hbm, ⟨3, _⟩ => ⟨S8192, .i1⟩
  | .hbm, ⟨4, _⟩ => ⟨S64x8192, .f32⟩
  | .hbm, ⟨5, _⟩ => ⟨S8x1x576, .i32⟩
  | .hbm, ⟨6, _⟩ => ⟨S8x576, .i32⟩
  | .local _ .vmem, ⟨0, _⟩ => ⟨S1x576x64, .f32⟩
  | .local _ .vmem, ⟨1, _⟩ => ⟨S1x576x64, .f32⟩
  | .local _ .vmem, ⟨2, _⟩ => ⟨S64x8192, .f32⟩
  | .local _ .vmem, ⟨3, _⟩ => ⟨S1x1x576, .i32⟩
  | .local _ .vmem, ⟨4, _⟩ => ⟨S1x1x576, .i32⟩
  | _, _ => ⟨S8x576x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x576x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x576 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S8x576x64 : Shape := ⟨3, ![8, 576, 64]⟩
abbrev S_ : Shape := ⟨0, ![]⟩
abbrev S8192x64 : Shape := ⟨2, ![8192, 64]⟩
abbrev S8192 : Shape := ⟨1, ![8192]⟩
abbrev S8x576 : Shape := ⟨2, ![8, 576]⟩
abbrev S8x576x1 : Shape := ⟨3, ![8, 576, 1]⟩
abbrev S8x576x8192 : Shape := ⟨3, ![8, 576, 8192]⟩
abbrev S1x1x8192 : Shape := ⟨3, ![1, 1, 8192]⟩
abbrev S8x576x1x1 : Shape := ⟨4, ![8, 576, 1, 1]⟩
abbrev S1 : Shape := ⟨1, ![1]⟩
abbrev S1x1x1x1 : Shape := ⟨4, ![1, 1, 1, 1]⟩

abbrev nBuf : Space → Nat
  | .hbm => 62
  | .vmem => 0
  | .smem => 0
  | _ => 0

abbrev bufTy : (tb : Table) → Fin (tcTables nBuf tb) → BufTy
  | .hbm, ⟨0, _⟩ => ⟨S8x576x64, .f32⟩
  | .hbm, ⟨1, _⟩ => ⟨S_, .i1⟩
  | .hbm, ⟨2, _⟩ => ⟨S8192x64, .f32⟩
  | .hbm, ⟨3, _⟩ => ⟨S8192, .i1⟩
  | .hbm, ⟨4, _⟩ => ⟨S8x576x64, .f32⟩
  | .hbm, ⟨5, _⟩ => ⟨S_, .f32⟩
  | .hbm, ⟨6, _⟩ => ⟨S8x576, .f32⟩
  | .hbm, ⟨7, _⟩ => ⟨S8x576x1, .f32⟩
  | .hbm, ⟨8, _⟩ => ⟨S8192x64, .f32⟩
  | .hbm, ⟨9, _⟩ => ⟨S_, .f32⟩
  | .hbm, ⟨10, _⟩ => ⟨S8192, .f32⟩
  | .hbm, ⟨11, _⟩ => ⟨S8x576x8192, .f32⟩
  | .hbm, ⟨12, _⟩ => ⟨S1x1x8192, .f32⟩
  | .hbm, ⟨13, _⟩ => ⟨S8x576x8192, .f32⟩
  | .hbm, ⟨14, _⟩ => ⟨S8x576x8192, .f32⟩
  | .hbm, ⟨15, _⟩ => ⟨S8x576x8192, .f32⟩
  | .hbm, ⟨16, _⟩ => ⟨S_, .f32⟩
  | .hbm, ⟨17, _⟩ => ⟨S8x576x8192, .f32⟩
  | .hbm, ⟨18, _⟩ => ⟨S8x576x8192, .f32⟩
  | .hbm, ⟨19, _⟩ => ⟨S8x576x8192, .f32⟩
  | .hbm, ⟨20, _⟩ => ⟨S1x1x8192, .i1⟩
  | .hbm, ⟨21, _⟩ => ⟨S_, .f32⟩
  | .hbm, ⟨22, _⟩ => ⟨S_, .f32⟩
  | .hbm, ⟨23, _⟩ => ⟨S8x576x8192, .i1⟩
  | .hbm, ⟨24, _⟩ => ⟨S8x576x8192, .f32⟩
  | .hbm, ⟨25, _⟩ => ⟨S8x576x8192, .f32⟩
  | .hbm, ⟨26, _⟩ => ⟨S8x576x8192, .i32⟩
  | .hbm, ⟨27, _⟩ => ⟨S_, .f32⟩
  | .hbm, ⟨28, _⟩ => ⟨S_, .i32⟩
  | .hbm, ⟨29, _⟩ => ⟨S8x576, .f32⟩
  | .hbm, ⟨30, _⟩ => ⟨S8x576, .i32⟩
  | .hbm, ⟨31, _⟩ => ⟨S8x576x1, .i32⟩
  | .hbm, ⟨32, _⟩ => ⟨S_, .i32⟩
  | .hbm, ⟨33, _⟩ => ⟨S8x576x1, .i32⟩
  | .hbm, ⟨34, _⟩ => ⟨S8x576x1, .i1⟩
  | .hbm, ⟨35, _⟩ => ⟨S_, .i32⟩
  | .hbm, ⟨36, _⟩ => ⟨S8x576x1, .i32⟩
  | .hbm, ⟨37, _⟩ => ⟨S8x576x1, .i32⟩
  | .hbm, ⟨38, _⟩ => ⟨S8x576x1, .i32⟩
  | .hbm, ⟨39, _⟩ => ⟨S8x576x1x1, .i32⟩
  | .hbm, ⟨40, _⟩ => ⟨S1, .i32⟩
  | .hbm, ⟨41, _⟩ => ⟨S_, .i32⟩
  | .hbm, ⟨42, _⟩ => ⟨S8x576x1x1, .i32⟩
  | .hbm, ⟨43, _⟩ => ⟨S8x576x1x1, .i1⟩
  | .hbm, ⟨44, _⟩ => ⟨S1x1x1x1, .i32⟩
  | .hbm, ⟨45, _⟩ => ⟨S8x576x1x1, .i32⟩
  | .hbm, ⟨46, _⟩ => ⟨S8x576x1x1, .i1⟩
  | .hbm, ⟨47, _⟩ => ⟨S8x576x1x1, .i1⟩
  | .hbm, ⟨48, _⟩ => ⟨S_, .i1⟩
  | .hbm, ⟨49, _⟩ => ⟨S8x576x1, .i1⟩
  | .hbm, ⟨50, _⟩ => ⟨S8x576x1, .f32⟩
  | .hbm, ⟨51, _⟩ => ⟨S_, .f32⟩
  | .hbm, ⟨52, _⟩ => ⟨S8x576x1, .f32⟩
  | .hbm, ⟨53, _⟩ => ⟨S8x576x1, .f32⟩
  | .hbm, ⟨54, _⟩ => ⟨S8x576, .f32⟩
  | .hbm, ⟨55, _⟩ => ⟨S_, .f32⟩
  | .hbm, ⟨56, _⟩ => ⟨S8x576, .f32⟩
  | .hbm, ⟨57, _⟩ => ⟨S8x576, .i1⟩
  | .hbm, ⟨58, _⟩ => ⟨S_, .i32⟩
  | .hbm, ⟨59, _⟩ => ⟨S_, .i32⟩
  | .hbm, ⟨60, _⟩ => ⟨S8x576, .i32⟩
  | .hbm, ⟨61, _⟩ => ⟨S8x576, .i32⟩
  | _, _ => ⟨S8x576x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_v14 : Ref sig .tc := ⟨.hbm, 25, rfl⟩
abbrev main_call1_v0 : Ref sig .tc := ⟨.hbm, 26, rfl⟩
abbrev main_call1_cst : Ref sig .tc := ⟨.hbm, 27, rfl⟩
abbrev main_call1_c : Ref sig .tc := ⟨.hbm, 28, rfl⟩
abbrev main_call1_v1_0 : Ref sig .tc := ⟨.hbm, 29, rfl⟩
abbrev main_v15 : Ref sig .tc := ⟨.hbm, 30, rfl⟩
abbrev main_v16 : Ref sig .tc := ⟨.hbm, 31, rfl⟩
abbrev main_call2_c : Ref sig .tc := ⟨.hbm, 32, rfl⟩
abbrev main_call2_v0 : Ref sig .tc := ⟨.hbm, 33, rfl⟩
abbrev main_call2_v1 : Ref sig .tc := ⟨.hbm, 34, rfl⟩
abbrev main_call2_c_0 : Ref sig .tc := ⟨.hbm, 35, rfl⟩
abbrev main_call2_v2 : Ref sig .tc := ⟨.hbm, 36, rfl⟩
abbrev main_call2_v3 : Ref sig .tc := ⟨.hbm, 37, rfl⟩
abbrev main_call2_v4 : Ref sig .tc := ⟨.hbm, 38, rfl⟩
abbrev main_call2_v5 : Ref sig .tc := ⟨.hbm, 39, rfl⟩
abbrev main_call2_c_1 : Ref sig .tc := ⟨.hbm, 40, rfl⟩
abbrev main_call2_c_2 : Ref sig .tc := ⟨.hbm, 41, rfl⟩
abbrev main_call2_v6 : Ref sig .tc := ⟨.hbm, 42, rfl⟩
abbrev main_call2_v7 : Ref sig .tc := ⟨.hbm, 43, rfl⟩
abbrev main_call2_v8 : Ref sig .tc := ⟨.hbm, 44, rfl⟩
abbrev main_call2_v9 : Ref sig .tc := ⟨.hbm, 45, rfl⟩
abbrev main_call2_v10 : Ref sig .tc := ⟨.hbm, 46, rfl⟩
abbrev main_call2_v11 : Ref sig .tc := ⟨.hbm, 47, rfl⟩
abbrev main_call2_c_3 : Ref sig .tc := ⟨.hbm, 48, rfl⟩
abbrev main_call2_v12 : Ref sig .tc := ⟨.hbm, 49, rfl⟩
abbrev main_call2_v13 : Ref sig .tc := ⟨.hbm, 50, rfl⟩
abbrev main_call2_cst : Ref sig .tc := ⟨.hbm, 51, rfl⟩
abbrev main_call2_v14 : Ref sig .tc := ⟨.hbm, 52, rfl⟩
abbrev main_v17 : Ref sig .tc := ⟨.hbm, 53, rfl⟩
abbrev main_v18 : Ref sig .tc := ⟨.hbm, 54, rfl⟩
abbrev main_cst_3 : Ref sig .tc := ⟨.hbm, 55, rfl⟩
abbrev main_v19 : Ref sig .tc := ⟨.hbm, 56, rfl⟩
abbrev main_v20 : Ref sig .tc := ⟨.hbm, 57, rfl⟩
abbrev main_c : Ref sig .tc := ⟨.hbm, 58, rfl⟩
abbrev main_call3_v0 : Ref sig .tc := ⟨.hbm, 59, rfl⟩
abbrev main_call3_v1 : Ref sig .tc := ⟨.hbm, 60, rfl⟩
abbrev main_v21 : Ref sig .tc := ⟨.hbm, 61, rfl⟩

abbrev nD : Nat := 1
abbrev τ : Topo := Topo.v7x

variable {F : FTy → Type} [FloatOps F]
-- ==== Proof.Spec.lean ====
/-
  The plain mathematics both programs compute, over the extended reals: the squared distance from one row to one code, the
  first code of least distance among 8192, and the code reported (its index where the least distance is at most 1000, else
  −1). Then the two ways of finding that code: the kernel's (the least of the distances, then the least of the indices whose
  distance equals it) and the reference's (one fold over the pairs of distance and index, ordered first by distance).
-/
module

public import Idealize.ShloMosaic.PureOps.Ideal
public import Idealize.ShloMosaic.PureOps.Ideal.Laws
public import Idealize.ShloMosaic.Lib.ValueIdx

@[expose] public section

noncomputable section

open scoped BigOperators

namespace Cert.Proof.Spec

open Idealize.ShloMosaic Idealize.ShloMosaic.ValueIdx

/-! ## The specification -/

/-- The squared distance |x|² + |c|² − 2 x·c of a row `x` to a code `c`. -/
def dist (x c : Fin 64 → EReal) : EReal :=
  ((∑ k, x k * x k) + ∑ k, c k * c k) - Ideal.ofBits .f32 0x40000000#32 * ∑ k, x k * c k

/-- `n₀` is the first index at which `d` is least. -/
def IsFirst {N : ℕ} (d : Fin N → EReal) (n₀ : Fin N) : Prop :=
  (∀ n, d n₀ ≤ d n) ∧ ∀ n, d n = d n₀ → n₀ ≤ n

/-- There is one: the set of indices is finite and not empty. -/
theorem exists_isFirst (d : Fin 8192 → EReal) : ∃ n₀, IsFirst d n₀ := by
  obtain ⟨a, ha⟩ := Finite.exists_min d
  obtain ⟨b, hb, hmin⟩ := WellFounded.has_min (r := ((· < ·) : Fin 8192 → Fin 8192 → Prop)) wellFounded_lt
    {n | d n = d a} ⟨a, rfl⟩
  have hb' : d b = d a := hb
  exact ⟨b, fun n => by rw [hb']; exact ha n, fun n hn => not_lt.1 (hmin n (by rw [Set.mem_setOf_eq, hn, hb']))⟩

/-- The first index at which `d` is least. -/
def first (d : Fin 8192 → EReal) : Fin 8192 := (exists_isFirst d).choose

/-- It is one. -/
theorem isFirst_first (d : Fin 8192 → EReal) : IsFirst d (first d) := (exists_isFirst d).choose_spec

/-- The code reported for the distances `d`: the first of least distance where that distance is at most 1000, else −1. -/
def pick (d : Fin 8192 → EReal) : BitVec 32 :=
  Scalar.select (Ideal.cmp .ole (d (first d)) (Ideal.ofBits .f32 0x447A0000#32)) (BitVec.ofNat 32 (first d).val) 4294967295#32

/-! ## Words -/

/-- The word of the largest distance is +∞. -/
theorem ofBits_inf : Ideal.ofBits .f32 0x7F800000#32 = ⊤ := by
  simp [Ideal.ofBits, Ideal.ieee]

/-- The word of the kernel's large index is 30000000. -/
theorem ofBits_large : Ideal.ofBits .f32 0x4BE4E1C0#32 = ((30000000 : ℝ) : EReal) := by
  simp [Ideal.ofBits, Ideal.ieee, -EReal.coe_mul]; norm_num

/-- A small natural read off its word as a signed integer is itself. -/
theorem toInt_ofNat (n : ℕ) (h : n < 8192) : (BitVec.ofNat 32 n).toInt = (n : ℤ) := by
  rw [BitVec.toInt_eq_toNat_cond, BitVec.toNat_ofNat, Nat.mod_eq_of_lt (by omega), if_pos (by omega)]

/-- A small natural turned into a float and back is itself. -/
theorem fptosi_nat (n : ℕ) (h : n < 8192) : Ideal.fptosi 32 (((n : ℝ)) : EReal) = BitVec.ofNat 32 n := by
  unfold Ideal.fptosi
  rw [Ideal.toIntClamped_coe, if_pos (Nat.cast_nonneg n), Int.floor_natCast, min_eq_right (by norm_num; omega),
    max_eq_right (by norm_num), BitVec.ofInt_natCast]

/-! ## The kernel's way -/

/-- The fold of `min` from +∞ over a finite range is the least value. -/
theorem fold_min_eq {N : ℕ} (f : Fin N → EReal) (n₀ : Fin N) (h : ∀ n, f n₀ ≤ f n) :
    (Finset.univ : Finset (Fin N)).fold min ⊤ f = f n₀ :=
  le_antisymm (Finset.fold_min_le _ |>.2 (.inr ⟨n₀, Finset.mem_univ _, le_rfl⟩))
    (Finset.le_fold_min _ |>.2 ⟨le_top, fun n _ => h n⟩)

/-- The kernel's candidates at `d`: an index as a float where its distance is `v`, else 30000000. -/
def cand (d : Fin 8192 → EReal) (v : EReal) (n : Fin 8192) : EReal :=
  Scalar.select (Ideal.cmp .oeq (d n) v) (((n.val : ℝ)) : EReal) ((30000000 : ℝ) : EReal)

/-- The least candidate at the least distance is the first index. -/
theorem fold_cand (d : Fin 8192 → EReal) (n₀ : Fin 8192) (h : IsFirst d n₀) :
    (Finset.univ : Finset (Fin 8192)).fold min ⊤ (cand d (d n₀)) = (((n₀.val : ℝ)) : EReal) := by
  have hc : ∀ n, cand d (d n₀) n = if d n = d n₀ then (((n.val : ℝ)) : EReal) else ((30000000 : ℝ) : EReal) := by
    intro n
    unfold cand Ideal.cmp
    by_cases e : d n = d n₀ <;> simp [e, Scalar.select]
  have h0 : cand d (d n₀) n₀ = (((n₀.val : ℝ)) : EReal) := by rw [hc, if_pos rfl]
  rw [fold_min_eq _ n₀, h0]
  intro n
  rw [h0, hc]
  by_cases e : d n = d n₀
  · rw [if_pos e, EReal.coe_le_coe_iff]
    exact_mod_cast h.2 n e
  · rw [if_neg e, EReal.coe_le_coe_iff]
    have : n₀.val ≤ 30000000 := by omega
    exact_mod_cast this

/-! ## The reference's way -/

/-- One pair of distance and index comes before another: by distance, then by index. -/
def before (a b : EReal × BitVec 32) : Prop := a.1 < b.1 ∨ (a.1 = b.1 ∧ a.2.toInt < b.2.toInt)

/-- What does not come after, and is not come after, chains. -/
theorem not_before_trans {a b c : EReal × BitVec 32} (h₁ : ¬ before b a) (h₂ : ¬ before c b) : ¬ before c a := by
  unfold before at *
  push Not at *
  obtain ⟨h1, h1'⟩ := h₁
  obtain ⟨h2, h2'⟩ := h₂
  refine ⟨h1.trans h2, fun e => ?_⟩
  have e1 : b.1 = a.1 := le_antisymm (e ▸ h2) h1
  exact (h1' e1).trans (h2' (e.trans e1.symm))

/-- A fold keeping the earlier of two pairs ends at one of the pairs, and none comes before it. -/
theorem foldl_first (f : EReal × BitVec 32 → EReal × BitVec 32 → EReal × BitVec 32)
    (hf : ∀ a b, (f a b = a ∧ ¬ before b a) ∨ (f a b = b ∧ ¬ before a b)) (l : List (EReal × BitVec 32)) :
    ∀ p, (l.foldl f p = p ∨ l.foldl f p ∈ l) ∧ ¬ before p (l.foldl f p) ∧ ∀ q ∈ l, ¬ before q (l.foldl f p) := by
  have irr : ∀ a : EReal × BitVec 32, ¬ before a a := fun a => by simp [before]
  induction l with
  | nil => intro p; exact ⟨.inl rfl, irr p, fun q hq => absurd hq List.not_mem_nil⟩
  | cons b l ih =>
    intro p
    obtain ⟨hm, hp, hall⟩ := ih (f p b)
    rw [List.foldl_cons]
    rcases hf p b with ⟨e, hn⟩ | ⟨e, hn⟩
    · rw [e] at hm hp hall ⊢
      refine ⟨hm.imp id (List.mem_cons_of_mem _), hp, fun q hq => ?_⟩
      rcases List.mem_cons.1 hq with rfl | hq
      · exact not_before_trans hp hn
      · exact hall q hq
    · rw [e] at hm hp hall ⊢
      refine ⟨.inr ?_, not_before_trans hp hn, fun q hq => ?_⟩
      · rcases hm with h | h
        · rw [h]; exact List.mem_cons_self
        · exact List.mem_cons_of_mem _ h
      · rcases List.mem_cons.1 hq with rfl | hq
        · exact hp
        · exact hall q hq

/-- Such a fold from the pair of +∞ and 0 over the pairs of `d` ends at the first index of least distance. -/
theorem foldl_pairs (f : EReal × BitVec 32 → EReal × BitVec 32 → EReal × BitVec 32)
    (hf : ∀ a b, (f a b = a ∧ ¬ before b a) ∨ (f a b = b ∧ ¬ before a b)) (d : Fin 8192 → EReal) (n₀ : Fin 8192)
    (h : IsFirst d n₀) (l : List (EReal × BitVec 32)) (hl : ∀ q, q ∈ l ↔ ∃ n, q = (d n, BitVec.ofNat 32 n.val)) :
    (l.foldl f (⊤, 0#32)).2 = BitVec.ofNat 32 n₀.val := by
  obtain ⟨hm, hp, hall⟩ := foldl_first f hf l (⊤, 0#32)
  have h0 := hall _ ((hl _).2 ⟨n₀, rfl⟩)
  generalize l.foldl f (⊤, 0#32) = r at *
  have key : ∀ n : Fin 8192, r = (d n, BitVec.ofNat 32 n.val) → r.2 = BitVec.ofNat 32 n₀.val := by
    rintro n rfl
    unfold before at h0
    push Not at h0
    obtain ⟨h1, h2⟩ := h0
    have e : d n = d n₀ := le_antisymm h1 (h.1 n)
    have h3 := h2 e.symm
    simp only [toInt_ofNat _ n.isLt, toInt_ofNat _ n₀.isLt] at h3
    have h4 := h.2 n e
    have : n = n₀ := Fin.ext (le_antisymm (by exact_mod_cast h3) h4)
    rw [this]
  rcases hm with e | hm
  · subst e
    have h5 := hall _ ((hl _).2 ⟨⟨0, by norm_num⟩, rfl⟩)
    unfold before at h0
    push Not at h0
    have e : d n₀ = ⊤ := top_le_iff.1 h0.1
    have e0 : d ⟨0, by norm_num⟩ = ⊤ := top_le_iff.1 (e ▸ h.1 _)
    exact key ⟨0, by norm_num⟩ (by rw [e0])
  · obtain ⟨n, hn⟩ := (hl _).1 hm
    exact key n hn

end Cert.Proof.Spec

end
-- ==== Proof.Block.lean ====
/-
  What one block of the kernel computes, over the extended reals. The body's one stored value is cut into four stages: the
  table of squared distances between the block's 576 rows and the 8192 codes, each row's least distance, each row's least
  index among those whose distance is that least one, and the word reported. Each stage is read at an index, and the
  stored value at row `r` is the specification's word for that row.
-/
module

public import proofs.«01_k».proof.Proof.Gen.KernelIdeal.Skeleton
public import proofs.«01_k».proof.Proof.Spec
public import Idealize.ShloMosaic.Lib.Pointwise

@[expose] public section

noncomputable section

open scoped BigOperators

namespace Cert.Proof.Block

open Idealize.ShloMosaic Cert.KernelIdeal Cert.KernelIdeal.Gen

/-! ## The four stages -/

/-- The table of squared distances: the row's squared length plus the code's, minus twice their product. -/
def table (v0 : FVec Ideal S1x576x64 .f32) (v2 : FVec Ideal S64x8192 .f32) : FVec Ideal S576x8192 .f32 :=
  have x : FVec Ideal S576x64 .f32 := shapeCast S576x64 v0 shapeCasts_S1x576x64_S576x64
  have c : FVec Ideal S64x8192 .f32 := shapeCast S64x8192 v2 shapeCasts_S64x8192_S64x8192
  subf
    (addf
      (broadcastTo S576x8192 (shapeCast S576x1 (multiReduction .add [1] S576 (mulf x x) 0x00000000#32
        reduces_S576x64_S576 (.inl rfl) rfl) shapeCasts_S576_S576x1) broadcasts_S576x1_S576x8192)
      (broadcastTo S576x8192 (shapeCast S1x8192 (multiReduction .add [0] S8192 (mulf c c) 0x00000000#32
        reduces_S64x8192_S8192 (.inl rfl) rfl) shapeCasts_S8192_S1x8192) broadcasts_S1x8192_S576x8192))
    (mulf (broadcast S576x8192 (Scalar.ofBits .f32 0x40000000#32))
      (matmul dot_S576x64_S64x8192_S576x8192_1_0_0_1_n_n none x c (constant S576x8192 .f32 0x00000000#32)))

/-- The least entry of every row of a table. -/
def least (d : FVec Ideal S576x8192 .f32) : FVec Ideal S576 .f32 :=
  multiReduction .minimumf [1] S576 d 0x7F800000#32 reduces_S576x8192_S576 (.inl rfl) rfl

/-- The column's number where a table's entry is its row's value, a large number elsewhere. -/
def marked (d : FVec Ideal S576x8192 .f32) (m : FVec Ideal S576x1 .f32) : FVec Ideal S576x8192 .f32 :=
  select (cmpf .oeq d (broadcastTo S576x8192 m broadcasts_S576x1_S576x8192))
    (sitofp .f32 (iota .tc S576x8192 32 [1] iota_S576x8192_d1_w32))
    (broadcast S576x8192 (Scalar.ofBits .f32 0x4BE4E1C0#32))

/-- The word reported for every row, from the row's least distance and its index: the index where the distance is at
    most 1000, else −1. -/
def report (m i : FVec Ideal S576x1 .f32) : IVec S1x1x576 32 :=
  shapeCast S1x1x576 (shapeCast S1x576
    (select (cmpf .ole m (broadcast S576x1 (Scalar.ofBits .f32 0x447A0000#32))) (fptosi 32 i)
      (broadcast S576x1 4294967295#32)) shapeCasts_S576x1_S1x576) shapeCasts_S1x576_S1x1x576

/-- A column of 576 values as a matrix of one column. -/
def col (v : FVec Ideal S576 .f32) : FVec Ideal S576x1 .f32 := shapeCast S576x1 v shapeCasts_S576_S576x1

/-- The body's stored value is the four stages in a row. -/
theorem pay_eq (v0 : FVec Ideal S1x576x64 .f32) (v2 : FVec Ideal S64x8192 .f32) :
    k0_pay1 (F := Ideal) v0 v2
      = report (col (least (table v0 v2))) (col (least (marked (table v0 v2) (col (least (table v0 v2)))))) := rfl

/-! ## The stages at an index -/

/-- The table at a row and a code is their squared distance. -/
theorem table_apply (v0 : FVec Ideal S1x576x64 .f32) (v2 : FVec Ideal S64x8192 .f32) (r : Fin 576) (n : Fin 8192) :
    table v0 v2 (ix2 r n) = Spec.dist (fun k => v0 (ix3 0 r k)) fun k => v2 (ix2 k n) := by
  pointwise [table, Spec.dist]

/-- A row's least entry is the fold of the minimum over the row. -/
theorem least_apply (d : FVec Ideal S576x8192 .f32) (r : Fin 576) :
    least d (ix1 r) = (Finset.univ : Finset (Fin 8192)).fold min ⊤ fun n => d (ix2 r n) := by
  rw [← Spec.ofBits_inf]
  pointwise [least]

/-- The marked table at a row and a column. -/
theorem marked_apply (d : FVec Ideal S576x8192 .f32) (m : FVec Ideal S576x1 .f32) (r : Fin 576) (n : Fin 8192) :
    marked d m (ix2 r n) = Scalar.select (Ideal.cmp .oeq (d (ix2 r n)) (m (ix2 r 0)))
      (FloatOps.sitofp (F := Ideal) .f32 (BitVec.ofNat 32 n.val)) (Ideal.ofBits .f32 0x4BE4E1C0#32) := by
  pointwise [marked]

/-- The reported word at a row. -/
theorem report_apply (m i : FVec Ideal S576x1 .f32) (r : Fin 576) :
    report m i (ix3 0 0 r) = Scalar.select (Ideal.cmp .ole (m (ix2 r 0)) (Ideal.ofBits .f32 0x447A0000#32))
      (FloatOps.fptosi (F := Ideal) (φ := .f32) 32 (i (ix2 r 0))) 4294967295#32 := by
  pointwise [report]

/-- A column's entry at a row. -/
theorem col_apply (v : FVec Ideal S576 .f32) (r : Fin 576) : col v (ix2 r 0) = v (ix1 r) := by
  pointwise [col]

/-- A column number as a float is the number. -/
theorem sitofp_nat (n : Fin 8192) :
    FloatOps.sitofp (F := Ideal) .f32 (BitVec.ofNat 32 n.val) = (((n.val : ℝ)) : EReal) := by
  show (((BitVec.ofNat 32 n.val).toInt : ℝ) : EReal) = _
  rw [Spec.toInt_ofNat n.val n.isLt, Int.cast_natCast]

/-! ## The block -/

/-- The value the kernel's body stores, at row `r` of its block: the specification's word for the distances of that row
    to the 8192 codes. -/
theorem pay_apply (v0 : FVec Ideal S1x576x64 .f32) (v2 : FVec Ideal S64x8192 .f32) (r : Fin 576) :
    k0_pay1 (F := Ideal) v0 v2 (ix3 0 0 r)
      = Spec.pick (fun n => Spec.dist (fun k => v0 (ix3 0 r k)) fun k => v2 (ix2 k n)) := by
  generalize hd : (fun n : Fin 8192 => Spec.dist (fun k => v0 (ix3 0 r k)) fun k => v2 (ix2 k n)) = d
  have ht : ∀ n, table v0 v2 (ix2 r n) = d n := fun n => by rw [table_apply, ← hd]
  have hm : col (least (table v0 v2)) (ix2 r 0) = d (Spec.first d) := by
    rw [col_apply, least_apply, show (fun n => table v0 v2 (ix2 r n)) = d from funext ht,
      Spec.fold_min_eq d (Spec.first d) (Spec.isFirst_first d).1]
  have hi : col (least (marked (table v0 v2) (col (least (table v0 v2))))) (ix2 r 0)
      = ((((Spec.first d).val : ℝ)) : EReal) := by
    have hc : (fun n => marked (table v0 v2) (col (least (table v0 v2))) (ix2 r n))
        = Spec.cand d (d (Spec.first d)) := by
      funext n
      rw [marked_apply, hm, ht, sitofp_nat, Spec.ofBits_large]
      rfl
    rw [col_apply, least_apply, hc, Spec.fold_cand d (Spec.first d) (Spec.isFirst_first d)]
  rw [pay_eq, report_apply, hm, hi]
  have hf : FloatOps.fptosi (F := Ideal) (φ := .f32) 32 ((((Spec.first d).val : ℝ)) : EReal)
      = BitVec.ofNat 32 (Spec.first d).val := Spec.fptosi_nat _ (Spec.first d).isLt
  rw [hf]
  rfl

end Cert.Proof.Block
-- ==== Proof.KernelValue.lean ====
/-
  What the kernel's arrays hold at the end, over the extended reals. Point `t` of the grid reads row block `t` of the rows
  and the whole of the transposed codes and writes row `t` of the 8 × 1 × 576 result; the eight rows tile it; the line
  after the launch drops the unit axis. So the program's result at `(b, s)` is the specification's word for row `(b, s)`.
-/
module

public import proofs.«01_k».proof.Proof.Gen.KernelIdeal.Frame
public import proofs.«01_k».proof.Proof.Block
public import Idealize.ShloMosaic.Lib.Pipeline.ValueKit
public import Idealize.ShloMosaic.Lib.Claim
public import Idealize.ShloMosaic.Lib.StableHlo.ReadAt

@[expose] public section

set_option maxRecDepth 16384

noncomputable section

namespace Cert.Proof.KernelValue

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-- The word for row `(b, s)` of `x` against the 8192 codes `c`. -/
def word (x : Vec Ideal S8x576x64 .f32) (c : Vec Ideal S8192x64 .f32) (b : Fin 8) (s : Fin 576) : BitVec 32 :=
  Spec.pick fun n => Spec.dist (fun k => x (ix3 b s k)) fun k => c (ix2 n k)

/-- The array the launch writes: row `(b, s)`'s word at `(b, 0, s)`. -/
def G (x : Vec Ideal S8x576x64 .f32) (c : Vec Ideal S8192x64 .f32) : Vec Ideal S8x1x576 .i32 :=
  fun i => word x c (i 0) (i 2)

/-- The program's result: row `(b, s)`'s word at `(b, s)`. -/
def answer (x : Vec Ideal S8x576x64 .f32) (c : Vec Ideal S8192x64 .f32) : Vec Ideal S8x576 .i32 :=
  fun i => word x c (i 0) (i 1)

/-- The windows' blocks at point `t`: row `t` of the rows, all of the codes, row `t` of the result. -/
theorem idx : ∀ t : Fin cfg0.N, win0_0.index t = ![t.val, 0, 0] ∧ win0_1.index t = ![0, 0]
    ∧ win0_2.index t = ![t.val, 0, 0] := (by decide +kernel : ∀ t : Fin grid0.N, _)

/-- The region finds the codes transposed. -/
theorem codes_apply (c : Dev nD) (k : Fin 64) (n : Fin 8192) :
    V m c main_v0 (ix2 k n) = m ((c : Thread nD τ).loc main_arg2) (ix2 n k) := by
  unfold V V0
  after_reads_at

/-- The array the launch writes, after the run. -/
theorem final (c : Dev nD) : (dats m 0 c).arrAt 2 cfg0.N
    = G (m ((c : Thread nD τ).loc main_arg0)) (m ((c : Thread nD τ).loc main_arg2)) := by
  refine (dats m 0 c).arrAt_eq_of_covers 2 _ (by decide +kernel) fun t hf y => ?_
  blk_simp
  rw [after0_2]
  frame_out
  obtain ⟨a, b, r, rfl⟩ : ∃ (a b : Fin 1) (r : Fin 576), y = ix3 a b r := ⟨y 0, y 1, y 2, eq_ix3 y⟩
  obtain rfl : a = 0 := Subsingleton.elim _ _
  obtain rfl : b = 0 := Subsingleton.elim _ _
  refine (Block.pay_apply _ _ r).trans ?_
  unfold G word
  refine congrArg Spec.pick (funext fun n => ?_)
  refine congrArg₂ Spec.dist (funext fun k => ?_) (funext fun k => ?_)
  · blk_ext [iblk, V_main_arg0 m c, idx t]
  · refine Eq.trans ?_ (codes_apply m c k n)
    blk_ext [iblk, idx t]

/-- Dropping the unit axis of the array gives the result. -/
theorem cast_answer (x : Vec Ideal S8x576x64 .f32) (c : Vec Ideal S8192x64 .f32) :
    shapeCast S8x576 (G x c) shapeCasts_S8x1x576_S8x576 = answer x c := by
  funext i
  idx_vars i
  pointwise [answer]
  rfl

/-- The kernel's run: its result is `answer` of its rows and codes, and its arguments are unchanged. -/
theorem run : θ_run defs (onTc (τ := τ) (main (F := Ideal))) ⟨m, fun _ => 0, ρ⟩ fun r => ∀ c : Dev nD,
      r.2.mem ((c : Thread nD τ).loc main_v2)
        = answer (m ((c : Thread nD τ).loc main_arg0)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) := by
  run_from Gen.run_main m ρ
  · unfold Pipeline.afterTail₀
    simp only [hostOps1, List.flatten_cons, List.flatten_nil, List.append_nil]
    after_results
    show shapeCast S8x576 (Pipeline.withArrays spec0 c (V0 m c) (fun w => (dats m 0 c).arrAt w cfg0.N)
      (Proc.devRef .tc (Pipeline.arrRef spec0 2))) shapeCasts_S8x1x576_S8x576 = _
    rw [Pipeline.withArrays_arr spec0 launch0.win.arr_inj c (V0 m c) _ 2, final m c]
    exact cast_answer _ _
  · exact W_main_arg1 m (dats m) c
  · exact W_main_arg2 m (dats m) c
  · exact W_main_arg3 m (dats m) c

end Cert.Proof.KernelValue
-- ==== Proof.RefRun.lean ====
/-
  The run of the reference program: @main with its four called functions written out is one straight line of fifty-eight
  array operations, so every buffer ends at the fold of the operations' results. `refOut` states what the result buffer
  holds as a function of the arguments, in named steps; `run_main` is the run, `frame` the unchanged arguments and counters.
-/
module

public import proofs.«01_k».proof.Defs
public import proofs.«01_k».proof.Proof.Gen.ReferenceIdeal
public import Idealize.ShloMosaic.Lib.StableHlo.Run
public import Idealize.ShloMosaic.Lib.Quiescent

@[expose] public section

noncomputable section

namespace Cert.Proof.RefRun

open Cert.ReferenceIdeal Cert.ReferenceIdeal.Gen
open Idealize.ShloMosaic Idealize.ShloMosaic.TcCoe Idealize.ShloMosaic.StableHlo Idealize.SL.Sem

variable {F : FTy → Type} [FloatOps F]

/-! ## The result as a function of the arguments -/

/-- The squared distance of every row of the tokens to every code: |x|² + |c|² − 2 x·c. -/
def distR (x : Vec F S8x576x64 .f32) (c : Vec F S8192x64 .f32) : Vec F S8x576x8192 .f32 :=
  subf
    (addf
      (broadcastInDim S8x576x8192 ![0, 1, 2] bcast_S8x576x1_S8x576x8192_0_1_2
        (broadcastInDim S8x576x1 ![0, 1] bcast_S8x576_S8x576x1_0_1
          (Host.reduceAdd (mulf x x) (constant S_ .f32 0x00000000#32) reducesTo_S8x576x64_S8x576_d2 h_S_)))
      (broadcastInDim S8x576x8192 ![0, 1, 2] bcast_S1x1x8192_S8x576x8192_0_1_2
        (broadcastInDim S1x1x8192 ![2] bcast_S8192_S1x1x8192_2
          (Host.reduceAdd (mulf c c) (constant S_ .f32 0x00000000#32) reducesTo_S8192x64_S8192_d1 h_S_))))
    (mulf (broadcastInDim S8x576x8192 ![] bcast_S_S8x576x8192 (constant S_ .f32 0x40000000#32))
      (Host.dotGeneral dot_S8x576x64_S8192x64_S8x576x8192_2_1_01_0_n_n none x c))

/-- The distances with those of the inactive codes replaced by +∞. -/
def maskR (d : Vec F S8x576x8192 .f32) (act : IVec S8192 1) : Vec F S8x576x8192 .f32 :=
  select
    (broadcastInDim S8x576x8192 ![0, 1, 2] bcast_S1x1x8192_S8x576x8192_0_1_2
      (broadcastInDim S1x1x8192 ![2] bcast_S8192_S1x1x8192_2 act))
    d
    (broadcastInDim S8x576x8192 ![] bcast_S_S8x576x8192 (id (constant S_ .f32 0x7F800000#32)))

/-- The code of least distance, for every row. -/
def argminR (d : Vec F S8x576x8192 .f32) : IVec S8x576 32 :=
  fun j => (Host.argReduce reducer_argmin_f32_i32 d (iotaInDim S8x576x8192 32 2) (constant S_ .f32 0x7F800000#32)
    (constantI S_ 32 0#32) reducesTo_S8x576x8192_S8x576_d2 h_S_ j).2

/-- An index counted from the end where it is negative. -/
def wrapR (i : IVec S8x576x1 32) : IVec S8x576x1x1 32 :=
  shapeCast S8x576x1x1
    (select (cmpi .slt i (broadcastInDim S8x576x1 ![] bcast_S_S8x576x1 (constantI S_ 32 0#32)))
      (addi i (broadcastInDim S8x576x1 ![] bcast_S_S8x576x1 (constantI S_ 32 8192#32))) i)
    shapeCasts_S8x576x1_S8x576x1x1

/-- Whether such an index lies in the range of the codes. -/
def insideR (i : IVec S8x576x1x1 32) : IVec S8x576x1 1 :=
  Host.reduce IntOp.andi
    (andi (cmpi .sge i (broadcastInDim S8x576x1x1 ![] bcast_S_S8x576x1x1 (constantI S_ 32 0#32)))
      (cmpi .sle i (broadcastInDim S8x576x1x1 ![0, 1, 2, 3] bcast_S1x1x1x1_S8x576x1x1_0_1_2_3
        (broadcastInDim S1x1x1x1 ![3] bcast_S1_S1x1x1x1_3 (constantI S1 32 8191#32)))))
    (constantI S_ 1 1#1) reducesTo_S8x576x1x1_S8x576x1_d3 h_S_

/-- The distance found at an index, for every row. -/
def takeR (d : Vec F S8x576x8192 .f32) (i : IVec S8x576x1 32) : Vec F S8x576x1 .f32 :=
  select (insideR (wrapR i))
    (Host.gather gather_S8x576x8192_S8x576x1x1_S8x576x1_n_2_01_01_2_3_111 d (wrapR i))
    (broadcastInDim S8x576x1 ![] bcast_S_S8x576x1 (constant S_ .f32 0x7FC00000#32))

/-- The reference's result: the nearest code's index where its distance is at most 1000, else −1. -/
def pickR (d : Vec F S8x576x8192 .f32) : IVec S8x576 32 :=
  select
    (cmpf .ole
      (shapeCast S8x576 (takeR d (broadcastInDim S8x576x1 ![0, 1] bcast_S8x576_S8x576x1_0_1 (argminR d))) shapeCasts_S8x576x1_S8x576)
      (broadcastInDim S8x576 ![] bcast_S_S8x576 (constant S_ .f32 0x447A0000#32)))
    (argminR d)
    (broadcastInDim S8x576 ![] bcast_S_S8x576 (id (constantI S_ 32 4294967295#32)))

/-- The reference's result as a function of its arguments. -/
def refOut (x : Vec F S8x576x64 .f32) (c : Vec F S8192x64 .f32) (act : IVec S8192 1) : IVec S8x576 32 :=
  pickR (maskR (distR x c) act)

/-! ## The operations -/

/-- The lines up to the distances. -/
abbrev opsA : List (HloOp τ sig (Elt F)) :=
  [ binary main_arg0 main_arg0 main_v0 mulf,
    nullary main_cst (constant S_ .f32 0x00000000#32),
    binary main_v0 main_cst main_v1 (fun x v => Host.reduceAdd x v reducesTo_S8x576x64_S8x576_d2 h_S_),
    unary main_v1 main_v2 (broadcastInDim S8x576x1 ![0, 1] bcast_S8x576_S8x576x1_0_1),
    binary main_arg2 main_arg2 main_v3 mulf,
    nullary main_cst_0 (constant S_ .f32 0x00000000#32),
    binary main_v3 main_cst_0 main_v4 (fun x v => Host.reduceAdd x v reducesTo_S8192x64_S8192_d1 h_S_),
    binary main_arg0 main_arg2 main_v5 (fun l r => Host.dotGeneral dot_S8x576x64_S8192x64_S8x576x8192_2_1_01_0_n_n none l r),
    unary main_v4 main_v6 (broadcastInDim S1x1x8192 ![2] bcast_S8192_S1x1x8192_2),
    unary main_v2 main_v7 (broadcastInDim S8x576x8192 ![0, 1, 2] bcast_S8x576x1_S8x576x8192_0_1_2),
    unary main_v6 main_v8 (broadcastInDim S8x576x8192 ![0, 1, 2] bcast_S1x1x8192_S8x576x8192_0_1_2),
    binary main_v7 main_v8 main_v9 addf,
    nullary main_cst_1 (constant S_ .f32 0x40000000#32),
    unary main_cst_1 main_v10 (broadcastInDim S8x576x8192 ![] bcast_S_S8x576x8192),
    binary main_v10 main_v5 main_v11 mulf,
    binary main_v9 main_v11 main_v12 subf,
    unary main_arg3 main_v13 (broadcastInDim S1x1x8192 ![2] bcast_S8192_S1x1x8192_2),
    nullary main_cst_2 (constant S_ .f32 0x7F800000#32),
    unary main_cst_2 main_call0_v0 (id : (⟨S_, .f32⟩ : BufTy).Contents (Elt F) → (⟨S_, .f32⟩ : BufTy).Contents (Elt F)),
    unary main_v13 main_call0_v1 (broadcastInDim S8x576x8192 ![0, 1, 2] bcast_S1x1x8192_S8x576x8192_0_1_2),
    unary main_call0_v0 main_call0_v2 (broadcastInDim S8x576x8192 ![] bcast_S_S8x576x8192),
    ternary main_call0_v1 main_v12 main_call0_v2 main_v14 (select (α := F .f32)) ]

/-- The lines that find the least distance's index. -/
abbrev opsB : List (HloOp τ sig (Elt F)) :=
  [ nullary main_call1_v0 (iotaInDim S8x576x8192 32 2),
    nullary main_call1_cst (constant S_ .f32 0x7F800000#32),
    nullary main_call1_c (constantI S_ 32 0#32),
    quaternary main_v14 main_call1_v0 main_call1_cst main_call1_c main_call1_v1_0
      (fun x y u v j => (Host.argReduce reducer_argmin_f32_i32 x y u v reducesTo_S8x576x8192_S8x576_d2 h_S_ j).1),
    quaternary main_v14 main_call1_v0 main_call1_cst main_call1_c main_v15
      (fun x y u v j => (Host.argReduce reducer_argmin_f32_i32 x y u v reducesTo_S8x576x8192_S8x576_d2 h_S_ j).2),
    unary main_v15 main_v16 (broadcastInDim S8x576x1 ![0, 1] bcast_S8x576_S8x576x1_0_1) ]

/-- The lines that read the distance at that index. -/
abbrev opsC : List (HloOp τ sig (Elt F)) :=
  [ nullary main_call2_c (constantI S_ 32 0#32),
    unary main_call2_c main_call2_v0 (broadcastInDim S8x576x1 ![] bcast_S_S8x576x1),
    binary main_v16 main_call2_v0 main_call2_v1 (cmpi .slt),
    nullary main_call2_c_0 (constantI S_ 32 8192#32),
    unary main_call2_c_0 main_call2_v2 (broadcastInDim S8x576x1 ![] bcast_S_S8x576x1),
    binary main_v16 main_call2_v2 main_call2_v3 addi,
    ternary main_call2_v1 main_call2_v3 main_v16 main_call2_v4 (select (α := BitVec 32)),
    reshape main_call2_v4 main_call2_v5 (rfl : (.i32 : EltTy) = .i32) shapeCasts_S8x576x1_S8x576x1x1,
    nullary main_call2_c_1 (constantI S1 32 8191#32),
    nullary main_call2_c_2 (constantI S_ 32 0#32),
    unary main_call2_c_2 main_call2_v6 (broadcastInDim S8x576x1x1 ![] bcast_S_S8x576x1x1),
    binary main_call2_v5 main_call2_v6 main_call2_v7 (cmpi .sge),
    unary main_call2_c_1 main_call2_v8 (broadcastInDim S1x1x1x1 ![3] bcast_S1_S1x1x1x1_3),
    unary main_call2_v8 main_call2_v9 (broadcastInDim S8x576x1x1 ![0, 1, 2, 3] bcast_S1x1x1x1_S8x576x1x1_0_1_2_3),
    binary main_call2_v5 main_call2_v9 main_call2_v10 (cmpi .sle),
    binary main_call2_v7 main_call2_v10 main_call2_v11 andi,
    nullary main_call2_c_3 (constantI S_ 1 1#1),
    binary main_call2_v11 main_call2_c_3 main_call2_v12
      (fun x v => Host.reduce IntOp.andi x v reducesTo_S8x576x1x1_S8x576x1_d3 h_S_),
    binary main_v14 main_call2_v5 main_call2_v13
      (fun x i => Host.gather gather_S8x576x8192_S8x576x1x1_S8x576x1_n_2_01_01_2_3_111 x i),
    nullary main_call2_cst (constant S_ .f32 0x7FC00000#32),
    unary main_call2_cst main_call2_v14 (broadcastInDim S8x576x1 ![] bcast_S_S8x576x1),
    ternary main_call2_v12 main_call2_v13 main_call2_v14 main_v17 (select (α := F .f32)) ]

/-- The lines that compare it with the threshold and choose. -/
abbrev opsD : List (HloOp τ sig (Elt F)) :=
  [ reshape main_v17 main_v18 (rfl : (.f32 : EltTy) = .f32) shapeCasts_S8x576x1_S8x576,
    nullary main_cst_3 (constant S_ .f32 0x447A0000#32),
    unary main_cst_3 main_v19 (broadcastInDim S8x576 ![] bcast_S_S8x576),
    binary main_v18 main_v19 main_v20 (cmpf .ole),
    nullary main_c (constantI S_ 32 4294967295#32),
    unary main_c main_call3_v0 (id : (⟨S_, .i32⟩ : BufTy).Contents (Elt F) → (⟨S_, .i32⟩ : BufTy).Contents (Elt F)),
    unary main_call3_v0 main_call3_v1 (broadcastInDim S8x576 ![] bcast_S_S8x576),
    ternary main_v20 main_v15 main_call3_v1 main_v21 (select (α := BitVec 32)) ]

/-- @main's operations, in order. -/
abbrev ops : List (HloOp τ sig (Elt F)) := opsA ++ opsB ++ opsC ++ opsD

set_option maxRecDepth 8000 in
/-- @main is that straight line. -/
theorem main_eq (c : Dev nD) : main (F := F) c = seq ops := rfl

/-! ## What the lines leave in the buffers -/

/-- The first lines leave the masked distances. -/
theorem afterA_v14 (V : Valuation τ sig (Elt F)) :
    after opsA V (main_v14 : DevRef τ sig)
      = maskR (distR (V (main_arg0 : DevRef τ sig)) (V (main_arg2 : DevRef τ sig))) (V (main_arg3 : DevRef τ sig)) := by
  after_results_simp
  rfl

/-- The search leaves the index of the least distance. -/
theorem afterB_v15 (V : Valuation τ sig (Elt F)) :
    after opsB V (main_v15 : DevRef τ sig) = argminR (V (main_v14 : DevRef τ sig)) := by
  after_results_simp
  rfl
/-- It leaves it again with a last axis of one. -/
theorem afterB_v16 (V : Valuation τ sig (Elt F)) :
    after opsB V (main_v16 : DevRef τ sig)
      = broadcastInDim S8x576x1 ![0, 1] bcast_S8x576_S8x576x1_0_1 (argminR (V (main_v14 : DevRef τ sig))) := by
  after_results_simp
  rfl
/-- The search keeps the distances. -/
theorem afterB_v14 (V : Valuation τ sig (Elt F)) :
    after opsB V (main_v14 : DevRef τ sig) = V (main_v14 : DevRef τ sig) := by
  after_results_simp

/-- The read leaves the distance at that index. -/
theorem afterC_v17 (V : Valuation τ sig (Elt F)) :
    after opsC V (main_v17 : DevRef τ sig) = takeR (V (main_v14 : DevRef τ sig)) (V (main_v16 : DevRef τ sig)) := by
  after_results_simp
  rfl
/-- The read keeps the index. -/
theorem afterC_v15 (V : Valuation τ sig (Elt F)) :
    after opsC V (main_v15 : DevRef τ sig) = V (main_v15 : DevRef τ sig) := by
  after_results_simp

/-- The last lines leave the choice. -/
theorem afterD_v21 (V : Valuation τ sig (Elt F)) :
    after opsD V (main_v21 : DevRef τ sig)
      = select
          (cmpf .ole (shapeCast S8x576 (V (main_v17 : DevRef τ sig)) shapeCasts_S8x576x1_S8x576)
            (broadcastInDim S8x576 ![] bcast_S_S8x576 (constant S_ .f32 0x447A0000#32)))
          (V (main_v15 : DevRef τ sig))
          (broadcastInDim S8x576 ![] bcast_S_S8x576 (id (constantI S_ 32 4294967295#32))) := by
  after_results_simp
  rfl

/-- The fold over a list of lines in two parts is the fold over the second from what the first left. -/
theorem after_two (l₁ l₂ : List (HloOp τ sig (Elt F))) (V : Valuation τ sig (Elt F)) :
    after (l₁ ++ l₂) V = after l₂ (after l₁ V) := by
  induction l₁ generalizing V with
  | nil => rfl
  | cons op l ih => exact ih _

/-- The result buffer ends at `refOut` of the arguments. -/
theorem out_eq (V : Valuation τ sig (Elt F)) :
    after ops V (main_v21 : DevRef τ sig)
      = refOut (V (main_arg0 : DevRef τ sig)) (V (main_arg2 : DevRef τ sig)) (V (main_arg3 : DevRef τ sig)) := by
  rw [ops, after_two, after_two, after_two, afterD_v21, afterC_v17, afterC_v15, afterB_v14, afterB_v15, afterB_v16, afterA_v14]
  rfl

/-- No line writes the first argument. -/
theorem arg0_eq (V : Valuation τ sig (Elt F)) : after ops V (main_arg0 : DevRef τ sig) = V (main_arg0 : DevRef τ sig) := by
  rw [ops, after_two, after_two, after_two]
  after_results_simp
/-- No line writes the second argument. -/
theorem arg1_eq (V : Valuation τ sig (Elt F)) : after ops V (main_arg1 : DevRef τ sig) = V (main_arg1 : DevRef τ sig) := by
  rw [ops, after_two, after_two, after_two]
  after_results_simp
/-- No line writes the third argument. -/
theorem arg2_eq (V : Valuation τ sig (Elt F)) : after ops V (main_arg2 : DevRef τ sig) = V (main_arg2 : DevRef τ sig) := by
  rw [ops, after_two, after_two, after_two]
  after_results_simp
/-- No line writes the fourth argument. -/
theorem arg3_eq (V : Valuation τ sig (Elt F)) : after ops V (main_arg3 : DevRef τ sig) = V (main_arg3 : DevRef τ sig) := by
  rw [ops, after_two, after_two, after_two]
  after_results_simp

/-! ## The run -/

/-- No buffer is scoped. -/
theorem scopedRefs_eq : (Finset.univ.filter fun b : Ref sig .tc => b.isScoped) = ∅ := by decide
/-- No semaphore is scoped. -/
theorem scopedSems_eq : (Finset.univ.filter fun sm : SemLoc sig => sm.isScoped .tc) = ∅ := by decide

/-- Every line touches the TensorCore's buffers only. -/
theorem ops_sub : (ops : List (HloOp τ sig (Elt F))).Forall fun op => op.bufs ⊆ tcRefs τ sig := by
  simp only [ops, opsA, opsB, opsC, opsD, List.cons_append, List.nil_append, List.Forall, nullary_bufs_sub, unary_bufs_sub,
    binary_bufs_sub, ternary_bufs_sub, quaternary_bufs_sub, reshape_bufs_sub, and_self]

/-- Every line determines what it writes. -/
theorem ops_fresh : ∀ op ∈ (ops : List (HloOp τ sig (Elt F))), op.fresh = ∅ := by
  intro op h
  (repeat (cases h with | head => rfl | tail _ h => ?_)); exact nomatch h

/-- From any memory with zero counters every weakly fair execution of the reference ends with the result buffer at `refOut` of
    the arguments and the arguments as they were. -/
theorem run_main (m : (ℓ : Loc nD τ sig) → Buf (Elt F) ℓ) (ρ : Dev nD → PrngReg) :
    θ_run defs (onTc (τ := τ) (main (F := F))) ⟨m, fun _ => 0, ρ⟩ fun r =>
      ∀ c : Dev nD,
        r.2.mem ((c.tc : Thread nD τ).loc main_v21)
            = refOut (m ((c.tc : Thread nD τ).loc main_arg0)) (m ((c.tc : Thread nD τ).loc main_arg2)) (m ((c.tc : Thread nD τ).loc main_arg3))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3) :=
  (θ_run defs _ _).mono (fun _ h c => ⟨(h c main_v21).trans (out_eq _), (h c main_arg0).trans (arg0_eq _),
      (h c main_arg1).trans (arg1_eq _), (h c main_arg2).trans (arg2_eq _), (h c main_arg3).trans (arg3_eq _)⟩)
    (run_seq scopedRefs_eq scopedSems_eq defs main (fun _ => ops) main_eq (fun _ => ops_sub) m ρ (fun _ => ops_fresh))

/-- The run read at the arguments; the program declares no semaphore. -/
theorem frame (m : (ℓ : Loc nD τ sig) → Buf (Elt F) ℓ) (ρ : Dev nD → PrngReg) :
    θ_run defs (onTc (τ := τ) (main (F := F))) ⟨m, fun _ => 0, ρ⟩ fun r =>
      (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3))
      ∧ r.2.sem = fun _ => 0 :=
  (θ_run defs _ _).mono (fun r h => ⟨fun c => (h c).2, sem_eq_zero_of_no_sems (by decide) r.2⟩) (run_main m ρ)

end Cert.Proof.RefRun

end
-- ==== Proof.RefValue.lean ====
/-
  What the reference computes, over the extended reals, where every code is active. Its distances are the specification's;
  its arg-min is one fold over the pairs of distance and index, which ends at the first code of least distance; the index
  is within the table, so the distance read back at it is the least one; and the word reported is the specification's.
-/
module

public import proofs.«01_k».proof.Proof.RefRun
public import proofs.«01_k».proof.Proof.Spec
public import Idealize.ShloMosaic.Lib.Pointwise
public import Idealize.ShloMosaic.Lib.ReduceAll

@[expose] public section

set_option maxRecDepth 16384

noncomputable section

open scoped BigOperators

namespace Cert.Proof.RefValue

open Idealize.ShloMosaic Cert.ReferenceIdeal Cert.ReferenceIdeal.Gen Cert.Proof.RefRun

/-! ## The distances -/

/-- The reference's distance of row `(b, s)` to code `n` is their squared distance. -/
theorem dist_apply (x : Vec Ideal S8x576x64 .f32) (c : Vec Ideal S8192x64 .f32) (b : Fin 8) (s : Fin 576) (n : Fin 8192) :
    distR (F := Ideal) x c (ix3 b s n) = Spec.dist (fun k => x (ix3 b s k)) fun k => c (ix2 n k) := by
  pointwise [distR, Spec.dist]

/-- Where every code is active the mask changes nothing. -/
theorem mask_eq (d : Vec Ideal S8x576x8192 .f32) (act : IVec S8192 1) (h : ∀ n, act n = 1#1) :
    maskR (F := Ideal) d act = d := by
  funext i
  have ha : act = fun _ => 1#1 := funext h
  subst ha
  rfl

/-! ## The arg-min -/

/-- The reference's reducer keeps that one of two pairs which no other comes before. -/
theorem reducer_spec (a b : EReal × BitVec 32) :
    (reducer_argmin_f32_i32 (F := Ideal) a b = a ∧ ¬ Spec.before b a)
      ∨ (reducer_argmin_f32_i32 (F := Ideal) a b = b ∧ ¬ Spec.before a b) := by
  obtain ⟨a1, a2⟩ := a
  obtain ⟨b1, b2⟩ := b
  have e : reducer_argmin_f32_i32 (F := Ideal) (a1, a2) (b1, b2)
      = (Scalar.select (IntOp.ori (Ideal.cmp .olt a1 b1) (Ideal.cmp .une a1 a1)) a1 b1,
         Scalar.select (IntOp.ori (IntOp.ori (Ideal.cmp .olt a1 b1) (Ideal.cmp .une a1 a1))
          (IntOp.andi (Ideal.cmp .oeq a1 b1) (IntOp.cmpi .slt a2 b2))) a2 b2) := rfl
  have hs : IntOp.cmpi .slt a2 b2 = if a2.toInt < b2.toInt then 1#1 else 0#1 := by
    by_cases h : a2.toInt < b2.toInt <;> simp [IntOp.cmpi, BitVec.slt, h]
  rw [e, hs]
  unfold Spec.before
  rcases lt_trichotomy a1 b1 with h | h | h
  · left
    simp [Ideal.cmp, h, h.ne, h.ne', not_lt_of_gt h, Scalar.select, IntOp.ori, IntOp.andi]
  · subst h
    by_cases h2 : a2.toInt < b2.toInt
    · left
      simp [Ideal.cmp, h2, Scalar.select, IntOp.ori, IntOp.andi, le_of_lt h2]
    · right
      simp [Ideal.cmp, h2, Scalar.select, IntOp.ori, IntOp.andi]
  · right
    simp [Ideal.cmp, h, h.ne, h.ne', not_lt_of_gt h, Scalar.select, IntOp.ori, IntOp.andi]

/-- Dropping the code's axis of an index. -/
theorem drop_eq (b : Fin 8) (s : Fin 576) (n : Fin 8192) :
    reducesTo_S8x576x8192_S8x576_d2.drop (ix3 b s n) = ix2 b s := by
  funext e
  apply Fin.ext
  match e with
  | ⟨0, _⟩ => rfl
  | ⟨1, _⟩ => rfl

/-- The pairs the arg-min folds over at row `(b, s)`: every code's distance with its number. -/
theorem mem_pairs (d : Vec Ideal S8x576x8192 .f32) (b : Fin 8) (s : Fin 576) (q : EReal × BitVec 32) :
    q ∈ Host.argReduceFiber d (iotaInDim S8x576x8192 32 2) reducesTo_S8x576x8192_S8x576_d2 (ix2 b s)
      ↔ ∃ n : Fin 8192, q = (d (ix3 b s n), BitVec.ofNat 32 n.val) := by
  unfold Host.argReduceFiber
  simp only [List.mem_map, List.mem_filter, List.mem_finRange, true_and, decide_eq_true_eq]
  constructor
  · rintro ⟨p, hp, rfl⟩
    generalize S8x576x8192.rowMajor.symm p = i at hp ⊢
    obtain ⟨b', s', n, rfl⟩ : ∃ (b' : Fin 8) (s' : Fin 576) (n : Fin 8192), i = ix3 b' s' n := ⟨i 0, i 1, i 2, eq_ix3 i⟩
    rw [drop_eq] at hp
    obtain rfl : b' = b := congrFun hp 0
    obtain rfl : s' = s := congrFun hp 1
    exact ⟨n, rfl⟩
  · rintro ⟨n, rfl⟩
    refine ⟨S8x576x8192.rowMajor (ix3 b s n), ?_, ?_⟩
    · rw [Equiv.symm_apply_apply, drop_eq]
    · rw [Equiv.symm_apply_apply]
      rfl

/-- The pair the fold starts from: +∞ and 0. -/
theorem start_eq (i : S_.Idx) :
    (constant (F := Ideal) S_ .f32 0x7F800000#32 i, constantI S_ 32 0#32 i) = ((⊤ : EReal), 0#32) := by
  rw [← Spec.ofBits_inf]
  rfl

/-- The fold at row `(b, s)`, from that pair, ends at the first code of least distance. -/
theorem fold_apply (d : Vec Ideal S8x576x8192 .f32) (b : Fin 8) (s : Fin 576) (i : EReal × BitVec 32)
    (hi : i = ((⊤ : EReal), 0#32)) :
    ((Host.argReduceFiber d (iotaInDim S8x576x8192 32 2) reducesTo_S8x576x8192_S8x576_d2 (ix2 b s)).foldl
      (reducer_argmin_f32_i32 (F := Ideal)) i).2 = BitVec.ofNat 32 (Spec.first fun n => d (ix3 b s n)).val := by
  subst hi
  exact Spec.foldl_pairs _ reducer_spec (fun n => d (ix3 b s n)) _ (Spec.isFirst_first _) _ (mem_pairs d b s)

/-- The reference's arg-min, opened: the second part of the pair its fold ends at. -/
theorem argmin_eq (d : Vec Ideal S8x576x8192 .f32) :
    argminR (F := Ideal) d = fun j => (Host.argReduce (F := Ideal) reducer_argmin_f32_i32 d (iotaInDim S8x576x8192 32 2)
      (constant S_ .f32 0x7F800000#32) (constantI S_ 32 0#32) reducesTo_S8x576x8192_S8x576_d2 h_S_ j).2 := rfl

/-- The reference's arg-min at row `(b, s)` is the first code of least distance. -/
theorem argmin_apply (d : Vec Ideal S8x576x8192 .f32) (b : Fin 8) (s : Fin 576) :
    argminR (F := Ideal) d (ix2 b s) = BitVec.ofNat 32 (Spec.first fun n => d (ix3 b s n)).val := by
  rw [argmin_eq]
  beta_reduce
  rw [Ideal.argReduce_eq_reduce2, Host.reduce2_eq_foldl_fiber]
  exact fold_apply d b s _ (start_eq _)

/-! ## The distance read back -/

/-- The gather at row `(b, s)`: the operand's entry at the index word, read signed and kept within the table. -/
theorem gather_apply (d : Vec Ideal S8x576x8192 .f32) (w : IVec S8x576x1x1 32) (b : Fin 8) (s : Fin 576) :
    Host.gather gather_S8x576x8192_S8x576x1x1_S8x576x1_n_2_01_01_2_3_111 d w (ix3 b s 0)
      = d (ix3 b s ⟨min (w (ix4 b s 0 0)).toInt.toNat 8191, by omega⟩) := by
  unfold Host.gather
  refine congrArg d (funext fun a => Fin.ext ?_)
  generalize hG : gather_S8x576x8192_S8x576x1x1_S8x576x1_n_2_01_01_2_3_111 = g
  show g.start (ix3 b s 0) w a + g.batchCoord (ix3 b s 0) a + g.offCoord (ix3 b s 0) a = _
  subst hG
  have h3 : a = 0 ∨ a = 1 ∨ a = 2 := by
    match a with
    | ⟨0, _⟩ => exact .inl rfl
    | ⟨1, _⟩ => exact .inr (.inl rfl)
    | ⟨2, _⟩ => exact .inr (.inr rfl)
  rcases h3 with rfl | rfl | rfl
  · rw [GatherDims.start_batching _ _ _ _ (by decide),
      GatherDims.offCoord_eq_zero _ _ _ (fun h => ((GatherDims.mem_sKept _ _).mp h).2 (by decide))]
    simp only [Nat.zero_add, Nat.add_zero]
    unfold GatherDims.batchCoord
    rw [dif_pos (by decide)]
    rfl
  · rw [GatherDims.start_batching _ _ _ _ (by decide),
      GatherDims.offCoord_eq_zero _ _ _ (fun h => ((GatherDims.mem_sKept _ _).mp h).2 (by decide))]
    simp only [Nat.zero_add, Nat.add_zero]
    unfold GatherDims.batchCoord
    rw [dif_pos (by decide)]
    rfl
  · rw [GatherDims.batchCoord_eq_zero _ _ _ (by decide),
      GatherDims.offCoord_eq_zero _ _ _ (fun h => ((GatherDims.mem_sKept _ _).mp h).1 (by decide))]
    simp only [Nat.add_zero]
    unfold GatherDims.start
    rw [dif_pos (by decide)]
    have hsi : ∀ k, gather_S8x576x8192_S8x576x1x1_S8x576x1_n_2_01_01_2_3_111.siIdx (ix3 b s 0) k = ix4 b s 0 0 := by
      intro k
      funext e
      apply Fin.ext
      match e with
      | ⟨0, _⟩ => rfl
      | ⟨1, _⟩ => rfl
      | ⟨2, _⟩ => rfl
      | ⟨3, _⟩ =>
        have hk : k = ⟨0, by decide⟩ := Fin.ext (by have : k.val < 1 := k.isLt; show k.val = 0; omega)
        subst hk
        rfl
    rw [hsi]
    rfl

/-- An index that is a code's number is not counted from the end. -/
theorem wrap_apply (i : IVec S8x576x1 32) (b : Fin 8) (s : Fin 576) (n : Fin 8192)
    (h : i (ix3 b s 0) = BitVec.ofNat 32 n.val) : wrapR i (ix4 b s 0 0) = BitVec.ofNat 32 n.val := by
  have e : wrapR i (ix4 b s 0 0) = Scalar.select (IntOp.cmpi .slt (i (ix3 b s 0)) 0#32)
      (IntOp.addi (i (ix3 b s 0)) 8192#32) (i (ix3 b s 0)) := by
    pointwise [wrapR]
  rw [e, h]
  have hn : IntOp.cmpi .slt (BitVec.ofNat 32 n.val) 0#32 = 0#1 := by
    have h0 : ¬ ((n.val : ℤ) < 0) := by omega
    simp [IntOp.cmpi, BitVec.slt, Spec.toInt_ofNat n.val n.isLt, h0]
  rw [hn]
  rfl

/-- Such indices all lie in the table. -/
theorem inside_apply (w : IVec S8x576x1x1 32) (h : ∀ b s, ∃ n : Fin 8192, w (ix4 b s 0 0) = BitVec.ofNat 32 n.val)
    (j : S8x576x1.Idx) : insideR w j = 1#1 := by
  unfold insideR
  refine Host.reduce_andi_one _ _ _ _ _ rfl fun i => ?_
  obtain ⟨b, s, u, v, rfl⟩ : ∃ (b : Fin 8) (s : Fin 576) (u v : Fin 1), i = ix4 b s u v := ⟨i 0, i 1, i 2, i 3, eq_ix4 i⟩
  obtain rfl : u = 0 := Subsingleton.elim _ _
  obtain rfl : v = 0 := Subsingleton.elim _ _
  obtain ⟨n, hn⟩ := h b s
  show IntOp.andi (IntOp.cmpi .sge (w (ix4 b s 0 0)) 0#32) (IntOp.cmpi .sle (w (ix4 b s 0 0)) 8191#32) = 1#1
  rw [hn]
  have h1 : IntOp.cmpi .sge (BitVec.ofNat 32 n.val) 0#32 = 1#1 := by
    simp [IntOp.cmpi, BitVec.sle, Spec.toInt_ofNat n.val n.isLt]
  have h2 : IntOp.cmpi .sle (BitVec.ofNat 32 n.val) 8191#32 = 1#1 := by
    have h0 : (n.val : ℤ) ≤ 8191 := by have := n.isLt; omega
    simp [IntOp.cmpi, BitVec.sle, Spec.toInt_ofNat n.val n.isLt, h0]
  rw [h1, h2]
  rfl

/-- The distance read back at codes' numbers. -/
theorem take_apply (d : Vec Ideal S8x576x8192 .f32) (i : IVec S8x576x1 32) (f : Fin 8 → Fin 576 → Fin 8192)
    (h : ∀ b s, i (ix3 b s 0) = BitVec.ofNat 32 (f b s).val) (b : Fin 8) (s : Fin 576) :
    takeR (F := Ideal) d i (ix3 b s 0) = d (ix3 b s (f b s)) := by
  have hw : ∀ b s, wrapR i (ix4 b s 0 0) = BitVec.ofNat 32 (f b s).val := fun b s => wrap_apply i b s _ (h b s)
  show Scalar.select (insideR (wrapR i) (ix3 b s 0)) (Host.gather _ d (wrapR i) (ix3 b s 0)) _ = _
  rw [inside_apply _ (fun b s => ⟨_, hw b s⟩), gather_apply]
  refine congrArg d (congrArg (ix3 b s) (Fin.ext ?_))
  show min (wrapR i (ix4 b s 0 0)).toInt.toNat 8191 = _
  rw [hw, Spec.toInt_ofNat _ (f b s).isLt]
  have := (f b s).isLt
  omega

/-! ## The result -/

/-- The reference's word for row `(b, s)`, where the arg-min `a` is the first code of least distance. -/
theorem report_apply (d : Vec Ideal S8x576x8192 .f32) (a : IVec S8x576 32)
    (ha : ∀ b s, a (ix2 b s) = BitVec.ofNat 32 (Spec.first fun n => d (ix3 b s n)).val) (b : Fin 8) (s : Fin 576) :
    select
      (cmpf .ole
        (shapeCast S8x576 (takeR (F := Ideal) d (broadcastInDim S8x576x1 ![0, 1] bcast_S8x576_S8x576x1_0_1 a))
          shapeCasts_S8x576x1_S8x576)
        (broadcastInDim S8x576 ![] bcast_S_S8x576 (constant (F := Ideal) S_ .f32 0x447A0000#32)))
      a
      (broadcastInDim S8x576 ![] bcast_S_S8x576 (id (constantI S_ 32 4294967295#32))) (ix2 b s)
      = Spec.pick fun n => d (ix3 b s n) := by
  have hi : ∀ b s, broadcastInDim S8x576x1 ![0, 1] bcast_S8x576_S8x576x1_0_1 a (ix3 b s 0)
      = BitVec.ofNat 32 (Spec.first fun n => d (ix3 b s n)).val := by
    intro b s
    rw [← ha]
    pointwise
  have ht := take_apply d _ (fun b s => Spec.first fun n => d (ix3 b s n)) hi b s
  generalize takeR (F := Ideal) d _ = t at ht ⊢
  have e : select (cmpf .ole (shapeCast S8x576 t shapeCasts_S8x576x1_S8x576)
        (broadcastInDim S8x576 ![] bcast_S_S8x576 (constant (F := Ideal) S_ .f32 0x447A0000#32))) a
        (broadcastInDim S8x576 ![] bcast_S_S8x576 (id (constantI S_ 32 4294967295#32))) (ix2 b s)
      = Scalar.select (Ideal.cmp .ole (t (ix3 b s 0)) (Ideal.ofBits .f32 0x447A0000#32)) (a (ix2 b s)) 4294967295#32 := by
    pointwise [id]
  rw [e, ht, ha]
  rfl

/-- The reference's word for row `(b, s)` is the specification's. -/
theorem pick_apply (d : Vec Ideal S8x576x8192 .f32) (b : Fin 8) (s : Fin 576) :
    pickR (F := Ideal) d (ix2 b s) = Spec.pick fun n => d (ix3 b s n) :=
  report_apply d (argminR (F := Ideal) d) (argmin_apply d) b s

/-- The reference's result at row `(b, s)`, every code active: the specification's word for the row's distances. -/
theorem refOut_apply (x : Vec Ideal S8x576x64 .f32) (c : Vec Ideal S8192x64 .f32) (act : IVec S8192 1)
    (h : ∀ n, act n = 1#1) (b : Fin 8) (s : Fin 576) :
    refOut (F := Ideal) x c act (ix2 b s)
      = Spec.pick fun n => Spec.dist (fun k => x (ix3 b s k)) fun k => c (ix2 n k) := by
  unfold refOut
  rw [mask_eq _ _ h, pick_apply]
  exact congrArg Spec.pick (funext fun n => dist_apply x c b s n)

end Cert.Proof.RefValue

end
-- ==== Proof.Equation.lean ====
/-
  The equation between the two programs: where every code is active, the kernel's result is the reference's. Then the
  claim over the extended reals, from the two runs.
-/
module

public import proofs.«01_k».proof.Defs
public import proofs.«01_k».proof.Proof.Gen.Pre_all_active
public import proofs.«01_k».proof.Proof.KernelValue
public import proofs.«01_k».proof.Proof.RefValue

@[expose] public section

noncomputable section

namespace Cert.Proof.Equation

open Idealize.ShloMosaic Idealize.SL.Sem

/-- The precondition read at a code: every code is active. -/
theorem active_of_pre (x : Vec Ideal Cert.Pre_all_active.S8x576x64 .f32) (tr : IVec Cert.Pre_all_active.S_ 1)
    (c : Vec Ideal Cert.Pre_all_active.S8192x64 .f32) (act : IVec Cert.Pre_all_active.S8192 1)
    (h : Cert.Pre_all_active.fn (F := Ideal) x tr c act = fun _ => 1#1) (n : Cert.Pre_all_active.S8192.Idx) : act n = 1#1 := by
  haveI : Subsingleton Cert.Pre_all_active.S_.Idx := ⟨fun a b => funext fun k => k.elim0⟩
  have e := congrFun h fun k => k.elim0
  dsimp only [Cert.Pre_all_active.fn] at e
  exact Host.reduce_andi_all _ _ _ _ _ e n

/-- Every code active, the kernel's result is the reference's. -/
theorem answer_eq (x : Vec Ideal Cert.KernelIdeal.S8x576x64 .f32) (c : Vec Ideal Cert.KernelIdeal.S8192x64 .f32)
    (act : IVec Cert.ReferenceIdeal.S8192 1) (h : ∀ n, act n = 1#1) :
    RefRun.refOut (F := Ideal) x c act = KernelValue.answer x c := by
  funext i
  obtain ⟨b, s, rfl⟩ : ∃ (b : Fin 8) (s : Fin 576), i = ix2 b s := ⟨i 0, i 1, eq_ix2 i⟩
  exact RefValue.refOut_apply x c act h b s

/-- The kernel and the reference end at the same result, from the same arguments with every code active. -/
theorem algebraic : Cert.algebraic_KernelIdeal_ReferenceIdeal_pre_all_active := by
  intro m g m' g' hpre hagree
  refine ⟨fun c => KernelValue.answer (m ((c.tc : Thread Cert.KernelIdeal.nD Cert.KernelIdeal.τ).loc Cert.KernelIdeal.main_arg0))
    (m ((c.tc : Thread Cert.KernelIdeal.nD Cert.KernelIdeal.τ).loc Cert.KernelIdeal.main_arg2)), KernelValue.run m g, ?_⟩
  refine (θ_run _ _ _).mono (fun r h c => ⟨(h c).1.trans ?_, (h c).2⟩) (RefRun.run_main (F := Ideal) m' g')
  obtain ⟨h0, h1, h2, h3⟩ := hagree c
  rw [h0, h2, h3]
  exact answer_eq _ _ _ fun n => active_of_pre _ _ _ _ (hpre c) n

end Cert.Proof.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_all_active
public import proofs.«01_k».proof.Proof.Equation
public import Idealize.ShloMosaic.Adequacy
public import Idealize.ShloMosaic.Init

@[expose] public section

noncomputable section

namespace Cert.Proof

open Idealize.ShloMosaic Idealize.SL.Sem Cert.Kernel

/-- All the claims: the kernel and the reference run with their arguments unchanged and every counter at zero, and over the
    extended reals their results are equal where every code is active. -/
theorem claim : Cert.Claim := ⟨Cert.Kernel.Gen.facts, Cert.KernelIdeal.Gen.facts, Cert.ReferenceIdeal.Gen.facts, Cert.Pre_all_active.Gen.facts,
  fun m ρ _ => Cert.Kernel.Gen.frame m ρ, fun m ρ _ => Cert.KernelIdeal.Gen.frame m ρ,
  fun m ρ _ => Cert.KernelIdeal.Gen.frame m ρ, fun m ρ _ => RefRun.frame m ρ, fun m ρ _ => RefRun.frame m ρ,
  trivial, Equation.algebraic⟩

end Cert.Proof

end
